-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x16x4096x64 : Shape := ⟨4, ![2, 16, 4096, 64]⟩
abbrev S1024x1024 : Shape := ⟨2, ![1024, 1024]⟩
abbrev S2x4096x1024 : Shape := ⟨3, ![2, 4096, 1024]⟩
abbrev S1x16x512x64 : Shape := ⟨4, ![1, 16, 512, 64]⟩
abbrev S1x512x1024 : Shape := ⟨3, ![1, 512, 1024]⟩
abbrev S16x512x64 : Shape := ⟨3, ![16, 512, 64]⟩
abbrev S64x128x64 : Shape := ⟨3, ![64, 128, 64]⟩
abbrev S64x128x128 : Shape := ⟨3, ![64, 128, 128]⟩
abbrev S64x128 : Shape := ⟨2, ![64, 128]⟩
abbrev S64x128x1 : Shape := ⟨3, ![64, 128, 1]⟩
abbrev S1x512x64 : Shape := ⟨3, ![1, 512, 64]⟩
abbrev S512x64 : Shape := ⟨2, ![512, 64]⟩
abbrev S512x1024 : Shape := ⟨2, ![512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2x16x4096x64, .f32⟩
  | .hbm, ⟨1, _⟩ => ⟨S2x16x4096x64, .f32⟩
  | .hbm, ⟨2, _⟩ => ⟨S2x16x4096x64, .f32⟩
  | .hbm, ⟨3, _⟩ => ⟨S1024x1024, .f32⟩
  | .hbm, ⟨4, _⟩ => ⟨S1024x1024, .bf16⟩
  | .hbm, ⟨5, _⟩ => ⟨S2x4096x1024, .f32⟩
  | .local _ .vmem, ⟨0, _⟩ => ⟨S1x16x512x64, .f32⟩
  | .local _ .vmem, ⟨1, _⟩ => ⟨S1x16x512x64, .f32⟩
  | .local _ .vmem, ⟨2, _⟩ => ⟨S1x16x512x64, .f32⟩
  | .local _ .vmem, ⟨3, _⟩ => ⟨S1x16x512x64, .f32⟩
  | .local _ .vmem, ⟨4, _⟩ => ⟨S1x16x512x64, .f32⟩
  | .local _ .vmem, ⟨5, _⟩ => ⟨S1x16x512x64, .f32⟩
  | .local _ .vmem, ⟨6, _⟩ => ⟨S1024x1024, .bf16⟩
  | .local _ .vmem, ⟨7, _⟩ => ⟨S1x512x1024, .f32⟩
  | .local _ .vmem, ⟨8, _⟩ => ⟨S1x512x1024, .f32⟩
  | _, _ => ⟨S2x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x16x4096x64 : Shape := ⟨4, ![2, 16, 4096, 64]⟩
abbrev S1024x1024 : Shape := ⟨2, ![1024, 1024]⟩
abbrev S2x16x32x128x64 : Shape := ⟨5, ![2, 16, 32, 128, 64]⟩
abbrev S2x16x32x128x128 : Shape := ⟨5, ![2, 16, 32, 128, 128]⟩
abbrev S_ : Shape := ⟨0, ![]⟩
abbrev S2x16x32x128 : Shape := ⟨4, ![2, 16, 32, 128]⟩
abbrev S2x16x32x128x1 : Shape := ⟨5, ![2, 16, 32, 128, 1]⟩
abbrev S2x4096x16x64 : Shape := ⟨4, ![2, 4096, 16, 64]⟩
abbrev S2x4096x1024 : Shape := ⟨3, ![2, 4096, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2x16x4096x64, .f32⟩
  | .hbm, ⟨1, _⟩ => ⟨S2x16x4096x64, .f32⟩
  | .hbm, ⟨2, _⟩ => ⟨S2x16x4096x64, .f32⟩
  | .hbm, ⟨3, _⟩ => ⟨S1024x1024, .f32⟩
  | .hbm, ⟨4, _⟩ => ⟨S2x16x32x128x64, .f32⟩
  | .hbm, ⟨5, _⟩ => ⟨S2x16x32x128x64, .f32⟩
  | .hbm, ⟨6, _⟩ => ⟨S2x16x32x128x64, .f32⟩
  | .hbm, ⟨7, _⟩ => ⟨S2x16x32x128x128, .f32⟩
  | .hbm, ⟨8, _⟩ => ⟨S_, .f32⟩
  | .hbm, ⟨9, _⟩ => ⟨S2x16x32x128x128, .f32⟩
  | .hbm, ⟨10, _⟩ => ⟨S2x16x32x128x128, .f32⟩
  | .hbm, ⟨11, _⟩ => ⟨S_, .f32⟩
  | .hbm, ⟨12, _⟩ => ⟨S2x16x32x128, .f32⟩
  | .hbm, ⟨13, _⟩ => ⟨S_, .f32⟩
  | .hbm, ⟨14, _⟩ => ⟨S2x16x32x128, .f32⟩
  | .hbm, ⟨15, _⟩ => ⟨S2x16x32x128, .f32⟩
  | .hbm, ⟨16, _⟩ => ⟨S2x16x32x128x1, .f32⟩
  | .hbm, ⟨17, _⟩ => ⟨S2x16x32x128x128, .f32⟩
  | .hbm, ⟨18, _⟩ => ⟨S2x16x32x128x128, .f32⟩
  | .hbm, ⟨19, _⟩ => ⟨S2x16x32x128x128, .f32⟩
  | .hbm, ⟨20, _⟩ => ⟨S_, .f32⟩
  | .hbm, ⟨21, _⟩ => ⟨S2x16x32x128, .f32⟩
  | .hbm, ⟨22, _⟩ => ⟨S2x16x32x128x1, .f32⟩
  | .hbm, ⟨23, _⟩ => ⟨S2x16x32x128x128, .f32⟩
  | .hbm, ⟨24, _⟩ => ⟨S2x16x32x128x128, .f32⟩
  | .hbm, ⟨25, _⟩ => ⟨S2x16x32x128x64, .f32⟩
  | .hbm, ⟨26, _⟩ => ⟨S2x16x4096x64, .f32⟩
  | .hbm, ⟨27, _⟩ => ⟨S2x4096x16x64, .f32⟩
  | .hbm, ⟨28, _⟩ => ⟨S2x4096x1024, .f32⟩
  | .hbm, ⟨29, _⟩ => ⟨S2x4096x1024, .f32⟩
  | _, _ => ⟨S2x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.Spec.lean ====
/- The mathematics of attention restricted to one block of 128 positions, for one head, over the extended reals:
   plain functions of a query row and of the block's 128 key and value rows, without programs, shapes or grids. -/
module

public import Idealize.ShloMosaic.Lib.Pointwise

@[expose] public section

noncomputable section

namespace Cert.Attention

open Idealize.ShloMosaic

/-- The scaled score of a query row against key row `j` of its block: their inner product times 1/8. -/
def score (q : Fin 64 → EReal) (K : Fin 128 → Fin 64 → EReal) (j : Fin 128) : EReal :=
  (∑ e : Fin 64, q e * K j e) * Ideal.ofBits FTy.f32 0x3E000000#32

/-- The largest of a row of 128 scores, starting from minus infinity. -/
def top (s : Fin 128 → EReal) : EReal :=
  Finset.fold max (Ideal.ofBits FTy.f32 0xFF800000#32) s Finset.univ

/-- The softmax weight of position `j` in a row of scores. -/
def weight (s : Fin 128 → EReal) (j : Fin 128) : EReal :=
  Ideal.div (Ideal.exp (s j - top s)) (∑ l : Fin 128, Ideal.exp (s l - top s))

/-- One attended feature: the value rows' feature `d`, averaged with the softmax weights of the query row's scores. -/
def attend (q : Fin 64 → EReal) (K V : Fin 128 → Fin 64 → EReal) (d : Fin 64) : EReal :=
  ∑ j : Fin 128, weight (score q K) j * V j d

/-- The largest score is at least its starting value, so a further maximum with that value changes nothing. -/
theorem max_top (s : Fin 128 → EReal) : max (Ideal.ofBits FTy.f32 0xFF800000#32) (top s) = top s :=
  max_eq_right (Finset.le_fold_max (Ideal.ofBits FTy.f32 0xFF800000#32) |>.mpr (Or.inl le_rfl))

/-- The position, along an axis of 512, of the `j`-th row of the block of 128 that holds row `r`. -/
def near (r : Fin 512) (j : Fin 128) : Fin 512 := ⟨r.val / 128 * 128 + j.val, by omega⟩

/-- The position, along the axis of 4096, of the `j`-th row of the block of 128 that holds row `s`. -/
def around (s : Fin 4096) (j : Fin 128) : Fin 4096 := ⟨s.val / 128 * 128 + j.val, by omega⟩

/-- Feature `x` of the 1024 concatenated ones belongs to head `x / 64` … -/
def headOf (x : Fin 1024) : Fin 16 := ⟨x.val / 64, by omega⟩

/-- … where it is feature `x % 64`. -/
def featOf (x : Fin 1024) : Fin 64 := ⟨x.val % 64, by omega⟩

end Cert.Attention

end
-- ==== Proof.Block.lean ====
/- What the kernel's body computes from one grid point's blocks: the attended features of each of the 16 heads over
   512 rows (four blocks of 128), their concatenation, and the product with the projection matrix. -/
module

public import proofs.«01_k».proof.Proof.Spec
public import proofs.«01_k».proof.Proof.Gen.KernelIdeal.Skeleton
public import Idealize.ShloMosaic.Lib.Pipeline.Value

@[expose] public section

set_option maxRecDepth 16384

noncomputable section

namespace Cert.KernelIdeal.Block

open Cert.KernelIdeal Cert.KernelIdeal.Gen Cert.Attention Idealize.ShloMosaic

/-- The heads' outputs, at head `h`, row `r` and feature `d`: the attention of row `r` over the 128 rows of its block. -/
theorem heads_apply (x y z : Vec Ideal S1x16x512x64 .f32) (h : Fin 16) (r : Fin 512) (d : Fin 64) :
    k0_pay2 (F := Ideal) x y z (ix3 h r d) =
      attend (fun e => x (ix4 0 h r e)) (fun j e => y (ix4 0 h (near r j) e)) (fun j e => z (ix4 0 h (near r j) e)) d := by
  have e1 : (h.val * 4 + r.val / 128) % 4 = r.val / 128 := by omega
  have e2 : (h.val * 4 + r.val / 128) / 4 = h.val := by omega
  have e3 : r.val / 128 * 128 + r.val % 128 = r.val := by omega
  pointwise [k0_pay2]
  simp only [e1, e2, e3, Fin.eta]
  rfl

/-- Any of the 16 heads can be cut out of the array of all heads. -/
theorem cuts (h : Fin 16) : S16x512x64.Slices ![h.val, 0, 0] S1x512x64 := by
  revert h; decide

/-- One head's slab, cut out of the array of all heads. -/
def slab (v : FVec Ideal S16x512x64 .bf16) (h : Fin 16) : FVec Ideal S512x64 .bf16 :=
  shapeCast S512x64 (extractStridedSlice S1x512x64 ![h.val, 0, 0] v (cuts h)) shapeCasts_S1x512x64_S512x64

/-- A slab, read at row `r` and feature `d`. -/
theorem slab_apply (v : FVec Ideal S16x512x64 .bf16) (h : Fin 16) (r : Fin 512) (d : Fin 64) :
    slab v h (ix2 r d) = v (ix3 h r d) := by
  pointwise [slab]

/-- The 16 slabs, in order. -/
abbrev slabs (v : FVec Ideal S16x512x64 .bf16) : List ((s : Shape) × (s.Idx → Ideal .bf16)) :=
  List.ofFn fun n : Fin 16 => ⟨S512x64, slab v n⟩

/-- The 16 slabs laid side by side, at row `r` and feature `x` of 1024: head `x / 64` at its feature `x % 64`. -/
theorem side_by_side (v : FVec Ideal S16x512x64 .bf16) (h : Shape.Concatenates ((slabs v).map (·.1)) S512x1024 1)
    (r : Fin 512) (x : Fin 1024) :
    concatenate S512x1024 1 (slabs v) h (ix2 r x) = v (ix3 (headOf x) r (featOf x)) := by
  rw [concatenate_ofFn_apply (s₁ := S512x64) 1 (slab v) h rfl 64 rfl (ix2 r x) (headOf x) rfl (ix2 r (featOf x)) rfl
    (fun b hb => by
      match b with
      | ⟨0, _⟩ => rfl
      | ⟨1, _⟩ => exact absurd rfl hb)]
  exact slab_apply v _ _ _

/-- The product with the projection matrix, of any left operand, at row `r` and column `c`. -/
theorem product_apply (u : FVec Ideal S512x1024 .bf16) (w : FVec Ideal S1024x1024 .bf16) (r : Fin 512) (c : Fin 1024) :
    shapeCast S1x512x1024
      (matmul dot_S512x1024_S1024x1024_S512x1024_1_0_0_1_n_n none u (shapeCast S1024x1024 w shapeCasts_S1024x1024_S1024x1024)
        (constant S512x1024 FTy.f32 0#32)) shapeCasts_S512x1024_S1x512x1024 (ix3 0 r c)
      = ∑ k : Fin 1024, u (ix2 r k) * w (ix2 k c) := by
  pointwise []

/-- The body's result, at row `r` and column `c`: the concatenated heads' row `r` times column `c` of the matrix. -/
theorem project_apply (x y z : Vec Ideal S1x16x512x64 .f32) (w : Vec Ideal S1024x1024 .bf16) (r : Fin 512) (c : Fin 1024) :
    k0_pay1 (k0_pay2 x y z) (k0_pay3 x y z) (k0_pay4 x y z) (k0_pay5 x y z) (k0_pay6 x y z) (k0_pay7 x y z) (k0_pay8 x y z)
      (k0_pay9 x y z) w (ix3 0 r c)
      = ∑ k : Fin 1024, attend (fun e => x (ix4 0 (headOf k) r e)) (fun j e => y (ix4 0 (headOf k) (near r j) e))
          (fun j e => z (ix4 0 (headOf k) (near r j) e)) (featOf k) * w (ix2 k c) := by
  refine (product_apply (concatenate S512x1024 1 (slabs (k0_pay2 x y z))
    concatenates_S512x64_S512x64_S512x64_S512x64_S512x64_S512x64_S512x64_S512x64_S512x64_S512x64_S512x64_S512x64_S512x64_S512x64_S512x64_S512x64_S512x1024_d1)
    w r c).trans (Finset.sum_congr rfl fun k _ => ?_)
  exact congrArg (· * w (ix2 k c)) ((side_by_side _ _ r k).trans (heads_apply x y z _ _ _))

end Cert.KernelIdeal.Block
end
-- ==== Proof.RefValue.lean ====
/- What the reference computes, index by index: its scores, its softmax weights, its attended features, and the
   product of the concatenated heads with the projection matrix. -/
module

public import proofs.«01_k».proof.Proof.Spec
public import proofs.«01_k».proof.Proof.Gen.ReferenceIdeal
public import proofs.«01_k».proof.Proof.Gen.ReferenceIdeal.Run

@[expose] public section

set_option maxRecDepth 16384

noncomputable section

namespace Cert.ReferenceIdeal.Whole

open Cert.ReferenceIdeal Cert.ReferenceIdeal.Gen Cert.Attention Idealize.ShloMosaic Idealize.SL.Sem

/-- The scaled scores of every query against the keys of its own block. -/
def scores (x y : FVec Ideal S2x16x4096x64 .f32) : FVec Ideal S2x16x32x128x128 .f32 :=
  mulf (Host.dotGeneral (φ₁ := .f32) (φ₂ := .f32) dot_S2x16x32x128x64_S2x16x32x128x64_S2x16x32x128x128_4_4_3_3_012_012 none
      (shapeCast _ x shapeCasts_S2x16x4096x64_S2x16x32x128x64) (shapeCast _ y shapeCasts_S2x16x4096x64_S2x16x32x128x64))
    (broadcastInDim S2x16x32x128x128 ![] bcast_S_S2x16x32x128x128 (constant S_ .f32 0x3E000000#32))

/-- The largest score of every row. -/
def tops (s : FVec Ideal S2x16x32x128x128 .f32) : FVec Ideal S2x16x32x128 .f32 :=
  maximumf (broadcastInDim S2x16x32x128 ![] bcast_S_S2x16x32x128 (constant S_ .f32 0xFF800000#32))
    (Host.reduce FloatOps.maximumf s (constant S_ .f32 0xFF800000#32) reducesTo_S2x16x32x128x128_S2x16x32x128_d4 h_S_)

/-- The exponentials of a row's scores less the row's largest. -/
def exps (s : FVec Ideal S2x16x32x128x128 .f32) : FVec Ideal S2x16x32x128x128 .f32 :=
  Host.exp (subf s (broadcastInDim S2x16x32x128x128 ![0, 1, 2, 3, 4] bcast_S2x16x32x128x1_S2x16x32x128x128_0_1_2_3_4
    (broadcastInDim S2x16x32x128x1 ![0, 1, 2, 3] bcast_S2x16x32x128_S2x16x32x128x1_0_1_2_3
      (tops s))))

/-- The softmax of every row of scores. -/
def weights (s : FVec Ideal S2x16x32x128x128 .f32) : FVec Ideal S2x16x32x128x128 .f32 :=
  Host.divf (exps s) (broadcastInDim S2x16x32x128x128 ![0, 1, 2, 3, 4] bcast_S2x16x32x128x1_S2x16x32x128x128_0_1_2_3_4
    (broadcastInDim S2x16x32x128x1 ![0, 1, 2, 3] bcast_S2x16x32x128_S2x16x32x128x1_0_1_2_3
      (Host.reduceAdd (exps s) (constant S_ .f32 0x00000000#32) reducesTo_S2x16x32x128x128_S2x16x32x128_d4 h_S_)))

/-- The attended features, block by block. -/
def attended (x y z : FVec Ideal S2x16x4096x64 .f32) : FVec Ideal S2x16x32x128x64 .f32 :=
  Host.dotGeneral (φ₁ := .f32) (φ₂ := .f32) dot_S2x16x32x128x128_S2x16x32x128x64_S2x16x32x128x64_4_3_3_4_012_012 none
    (weights (scores x y)) (shapeCast _ z shapeCasts_S2x16x4096x64_S2x16x32x128x64)

/-- The reference's result: the heads' features side by side, times the projection matrix. -/
def result (x y z : FVec Ideal S2x16x4096x64 .f32) (w : FVec Ideal S1024x1024 .f32) : FVec Ideal S2x4096x1024 .f32 :=
  Host.dotGeneral (φ₁ := .f32) (φ₂ := .f32) dot_S2x4096x1024_S1024x1024_S2x4096x1024_2_0_01_1_n_n none
    (shapeCast _ (transpose S2x4096x16x64 [0, 2, 1, 3] (shapeCast _ (attended x y z) shapeCasts_S2x16x32x128x64_S2x16x4096x64)
      transposes_S2x16x4096x64_S2x4096x16x64_0_2_1_3) shapeCasts_S2x4096x16x64_S2x4096x1024) w

/-- The reference runs, ends with `result` of its arguments, and leaves them unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21)
          = result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold result attended weights exps tops scores
  exact Cert.ReferenceIdeal.Value.run (F := Ideal) m ρ

/-- The position, along the axis of 4096, of row `i` of block `n`. -/
def at_ (n : Fin 32) (i : Fin 128) : Fin 4096 := ⟨n.val * 128 + i.val, by omega⟩

/-- A score, at batch `b`, head `h`, block `n`, query `i` and key `j` of the block. -/
theorem scores_apply (x y : FVec Ideal S2x16x4096x64 .f32) (b : Fin 2) (h : Fin 16) (n : Fin 32) (i j : Fin 128) :
    scores x y (ix5 b h n i j) = score (fun e => x (ix4 b h (at_ n i) e)) (fun j e => y (ix4 b h (at_ n j) e)) j := by
  unfold scores
  rw [mulf_apply]
  pointwise []
  simp only [score, at_]

/-- The largest score of a row. -/
theorem tops_apply (s : FVec Ideal S2x16x32x128x128 .f32) (b : Fin 2) (h : Fin 16) (n : Fin 32) (i : Fin 128) :
    tops s (ix4 b h n i) = top fun l => s (ix5 b h n i l) := by
  rw [← max_top]
  unfold tops
  rw [maximumf_apply]
  pointwise []
  simp only [top]

/-- An exponential of a score less the largest of its row. -/
theorem exps_apply (s : FVec Ideal S2x16x32x128x128 .f32) (b : Fin 2) (h : Fin 16) (n : Fin 32) (i j : Fin 128) :
    exps s (ix5 b h n i j) = Ideal.exp (s (ix5 b h n i j) - top fun l => s (ix5 b h n i l)) := by
  rw [← tops_apply]
  unfold exps
  rw [Host.exp_apply, subf_apply]
  pointwise []

/-- A softmax weight. -/
theorem weights_apply (s : FVec Ideal S2x16x32x128x128 .f32) (b : Fin 2) (h : Fin 16) (n : Fin 32) (i j : Fin 128) :
    weights s (ix5 b h n i j) = weight (fun l => s (ix5 b h n i l)) j := by
  unfold weights
  rw [Host.divf_apply]
  pointwise []
  simp only [exps_apply, weight]

/-- An attended feature `d` of row `i` of block `n`. -/
theorem attended_apply (x y z : FVec Ideal S2x16x4096x64 .f32) (b : Fin 2) (h : Fin 16) (n : Fin 32) (i : Fin 128) (d : Fin 64) :
    attended x y z (ix5 b h n i d) =
      attend (fun e => x (ix4 b h (at_ n i) e)) (fun j e => y (ix4 b h (at_ n j) e)) (fun j e => z (ix4 b h (at_ n j) e)) d := by
  unfold attended
  pointwise []
  simp only [weights_apply, scores_apply, attend, at_]

/-- The reference's result at batch `b`, row `s` and column `c`. -/
theorem result_apply (x y z : FVec Ideal S2x16x4096x64 .f32) (w : FVec Ideal S1024x1024 .f32) (b : Fin 2) (s : Fin 4096) (c : Fin 1024) :
    result x y z w (ix3 b s c)
      = ∑ k : Fin 1024, attend (fun e => x (ix4 b (headOf k) s e)) (fun j e => y (ix4 b (headOf k) (around s j) e))
          (fun j e => z (ix4 b (headOf k) (around s j) e)) (featOf k) * w (ix2 k c) := by
  have e : s.val / 128 * 128 + s.val % 128 = s.val := by omega
  unfold result
  pointwise []
  simp only [attended_apply, at_, e, Fin.eta, headOf, featOf, around]

end Cert.ReferenceIdeal.Whole
end
-- ==== Proof.Array.lean ====
/- The kernel's whole result array: the 16 grid points' blocks tile it, and each block holds the reference's result. -/
module

public import proofs.«01_k».proof.Proof.Block
public import proofs.«01_k».proof.Proof.RefValue
public import proofs.«01_k».proof.Proof.Gen.KernelIdeal.Value
public import Idealize.ShloMosaic.Lib.Pipeline.ValueKit
public import Idealize.ShloMosaic.Lib.Claim

@[expose] public section

set_option maxRecDepth 16384

noncomputable section

namespace Cert.KernelIdeal.Array

open Cert.KernelIdeal Cert.KernelIdeal.Gen Cert.Attention Idealize.ShloMosaic Idealize.ShloMosaic.TcCoe Idealize.SL.Sem
open Idealize.ShloMosaic.Pipeline (Dat)

variable (m : (ℓ : Loc nD τ sig) → Buf (Elt Ideal) ℓ)

/-- Which block each window takes at point `t`: batch `t / 8`, rows from `512 * (t % 8)`; the matrix is one block. -/
theorem places : ∀ t : Fin cfg0.N, win0_0.index t = ![t.val / 8, 0, t.val % 8, 0] ∧ win0_1.index t = ![t.val / 8, 0, t.val % 8, 0]
    ∧ win0_2.index t = ![t.val / 8, 0, t.val % 8, 0] ∧ win0_3.index t = ![0, 0] ∧ win0_4.index t = ![t.val / 8, t.val % 8, 0]
    ∧ t.val / 8 < 2 :=
  (by decide +kernel : ∀ t : Fin grid0.N, _)

/-- The reference's result from the kernel's four argument arrays. -/
abbrev want (c : Dev nD) : FVec Ideal S2x4096x1024 .f32 :=
  Cert.ReferenceIdeal.Whole.result (m ((c : Thread nD τ).loc main_arg0)) (m ((c : Thread nD τ).loc main_arg1))
    (m ((c : Thread nD τ).loc main_arg2)) (m ((c : Thread nD τ).loc main_arg3))

/-- The query array's block, read at an index. -/
theorem query_block (c : Dev nD) (t : Fin cfg0.N) (h : Fin 16) (r : Fin 512) (e : Fin 64) (b : Fin 2) (s : Fin 4096)
    (hb : b.val = t.val / 8) (hs : s.val = t.val % 8 * 512 + r.val) :
    iblk m c 0 t (ix4 0 h r e) = m ((c : Thread nD τ).loc main_arg0) (ix4 b h s e) := by
  blk_ext [iblk, V, places t]

/-- The key array's block, read at an index. -/
theorem key_block (c : Dev nD) (t : Fin cfg0.N) (h : Fin 16) (r : Fin 512) (e : Fin 64) (b : Fin 2) (s : Fin 4096)
    (hb : b.val = t.val / 8) (hs : s.val = t.val % 8 * 512 + r.val) :
    iblk m c 1 t (ix4 0 h r e) = m ((c : Thread nD τ).loc main_arg1) (ix4 b h s e) := by
  blk_ext [iblk, V, places t]

/-- The value array's block, read at an index. -/
theorem value_block (c : Dev nD) (t : Fin cfg0.N) (h : Fin 16) (r : Fin 512) (e : Fin 64) (b : Fin 2) (s : Fin 4096)
    (hb : b.val = t.val / 8) (hs : s.val = t.val % 8 * 512 + r.val) :
    iblk m c 2 t (ix4 0 h r e) = m ((c : Thread nD τ).loc main_arg2) (ix4 b h s e) := by
  blk_ext [iblk, V, places t]

/-- The projection matrix is staged whole: the cast before the launch keeps its values. -/
theorem matrix_block (c : Dev nD) (t : Fin cfg0.N) (k l : Fin 1024) :
    iblk m c 3 t (ix2 k l) = m ((c : Thread nD τ).loc main_arg3) (ix2 k l) := by
  blk_simp [iblk]
  entry_read
  pointwise []
  blk_ext [places t]

/-- What point `t` stores at row `r` and column `l` of its block is the reference's result there. -/
theorem point (c : Dev nD) (t : Fin cfg0.N) (y : S1x512x1024.Idx) :
    k0_pay1 (k0_pay2 (iblk m c 0 t) (iblk m c 1 t) (iblk m c 2 t)) (k0_pay3 (iblk m c 0 t) (iblk m c 1 t) (iblk m c 2 t))
      (k0_pay4 (iblk m c 0 t) (iblk m c 1 t) (iblk m c 2 t)) (k0_pay5 (iblk m c 0 t) (iblk m c 1 t) (iblk m c 2 t))
      (k0_pay6 (iblk m c 0 t) (iblk m c 1 t) (iblk m c 2 t)) (k0_pay7 (iblk m c 0 t) (iblk m c 1 t) (iblk m c 2 t))
      (k0_pay8 (iblk m c 0 t) (iblk m c 1 t) (iblk m c 2 t)) (k0_pay9 (iblk m c 0 t) (iblk m c 1 t) (iblk m c 2 t))
      (iblk m c 3 t) y = want m c (((cfg0.win 4).blk t).view.emb y) := by
  obtain ⟨b, hb⟩ : ∃ b : Fin 2, b.val = t.val / 8 := ⟨⟨t.val / 8, (places t).2.2.2.2.2⟩, rfl⟩
  idx_vars y
  obtain rfl : y0 = 0 := Subsingleton.elim _ _
  rename' y1 => r, y2 => l
  obtain ⟨s, hs⟩ : ∃ s : Fin 4096, s.val = t.val % 8 * 512 + r.val := ⟨⟨t.val % 8 * 512 + r.val, by omega⟩, rfl⟩
  have hi : ((cfg0.win 4).blk t).view.emb (ix3 0 r l) = ix3 b s l := by
    blk_ext [places t]
  rw [hi, Cert.KernelIdeal.Block.project_apply]
  unfold want
  rw [Cert.ReferenceIdeal.Whole.result_apply]
  have near_around : ∀ j : Fin 128, (around s j).val = t.val % 8 * 512 + (near r j).val := fun j => by
    simp only [around, near]; omega
  refine Finset.sum_congr rfl fun k _ => ?_
  simp only [query_block m c t _ r _ b s hb hs, key_block m c t _ _ _ b _ hb (near_around _),
    value_block m c t _ _ _ b _ hb (near_around _), matrix_block]

/-- The result array after the run is the reference's result. -/
theorem final (c : Dev nD) : (dats m 0 c).arrAt 4 (cfgs 0).N = want m c := by
  refine (dats m 0 c).arrAt_eq_of_covers 4 _ (by decide +kernel) fun t _ y => ?_
  blk_simp
  rw [after0_4]
  frame_out
  exact point m c t y

end Cert.KernelIdeal.Array
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.Run
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Array
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments unchanged and ends with every counter at zero. -/
theorem reference_quiescent : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Whole.run m g)

/-- Over the extended reals the kernel's result is the reference's, from any arguments they share. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Value.run_blocks m g
  · run_from Cert.ReferenceIdeal.Whole.run m' g'
    exact (Cert.KernelIdeal.Array.final m c).symm

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_quiescent, trivial, algebraic⟩

end Cert.Proof

end
